-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x12288 : Shape := ⟨3, ![2, 128, 12288]⟩
abbrev S2x128 : Shape := ⟨2, ![2, 128]⟩
abbrev S2x128x9x40 : Shape := ⟨4, ![2, 128, 9, 40]⟩
abbrev S2x128x9 : Shape := ⟨3, ![2, 128, 9]⟩
abbrev S2x9x40x12288 : Shape := ⟨4, ![2, 9, 40, 12288]⟩
abbrev S2x9x40x128 : Shape := ⟨4, ![2, 9, 40, 128]⟩
abbrev S9x2x128 : Shape := ⟨3, ![9, 2, 128]⟩
abbrev S2x360x12288 : Shape := ⟨3, ![2, 360, 12288]⟩
abbrev S9x2x40 : Shape := ⟨3, ![9, 2, 40]⟩
abbrev S2x128x2048 : Shape := ⟨3, ![2, 128, 2048]⟩
abbrev S2x360x2048 : Shape := ⟨3, ![2, 360, 2048]⟩
abbrev S2x128x360 : Shape := ⟨3, ![2, 128, 360]⟩
abbrev S1x128 : Shape := ⟨2, ![1, 128]⟩
abbrev S1x1x40x128 : Shape := ⟨4, ![1, 1, 40, 128]⟩
abbrev S40x128 : Shape := ⟨2, ![40, 128]⟩
abbrev S40 : Shape := ⟨1, ![40]⟩
abbrev S40x1 : Shape := ⟨2, ![40, 1]⟩
abbrev S1x40 : Shape := ⟨2, ![1, 40]⟩
abbrev S1x1x40 : Shape := ⟨3, ![1, 1, 40]⟩
abbrev S1x1x128 : Shape := ⟨3, ![1, 1, 128]⟩
abbrev S360x128 : Shape := ⟨2, ![360, 128]⟩
abbrev S128x360 : Shape := ⟨2, ![128, 360]⟩
abbrev S1x128x360 : Shape := ⟨3, ![1, 128, 360]⟩
abbrev S1x9x40x128 : Shape := ⟨4, ![1, 9, 40, 128]⟩
abbrev S9x40x128 : Shape := ⟨3, ![9, 40, 128]⟩
abbrev S1x128x2048 : Shape := ⟨3, ![1, 128, 2048]⟩
abbrev S128x2048 : Shape := ⟨2, ![128, 2048]⟩
abbrev S360x2048 : Shape := ⟨2, ![360, 2048]⟩
abbrev S1x360x2048 : Shape := ⟨3, ![1, 360, 2048]⟩
abbrev S2x9x40 : Shape := ⟨3, ![2, 9, 40]⟩

abbrev nBuf : Space → Nat
  | .hbm => 13
  | .vmem => 13
  | .smem => 0
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S2x128x9x40, .fp8e4m3⟩
  | .hbm, ⟨3, _⟩ => ⟨S2x128x9, .bf16⟩
  | .hbm, ⟨4, _⟩ => ⟨S2x9x40x12288, .bf16⟩
  | .hbm, ⟨5, _⟩ => ⟨S2x9x40x128, .fp8e4m3⟩
  | .hbm, ⟨6, _⟩ => ⟨S9x2x128, .bf16⟩
  | .hbm, ⟨7, _⟩ => ⟨S2x360x12288, .bf16⟩
  | .hbm, ⟨8, _⟩ => ⟨S2x128x12288, .bf16⟩
  | .hbm, ⟨9, _⟩ => ⟨S2x360x12288, .fp8e4m3⟩
  | .hbm, ⟨10, _⟩ => ⟨S9x2x40, .f32⟩
  | .hbm, ⟨11, _⟩ => ⟨S2x9x40x12288, .fp8e4m3⟩
  | .hbm, ⟨12, _⟩ => ⟨S2x9x40, .f32⟩
  | .local _ .vmem, ⟨0, _⟩ => ⟨S2x9x40x128, .fp8e4m3⟩
  | .local _ .vmem, ⟨1, _⟩ => ⟨S9x2x128, .bf16⟩
  | .local _ .vmem, ⟨2, _⟩ => ⟨S2x128, .f32⟩
  | .local _ .vmem, ⟨3, _⟩ => ⟨S2x128x2048, .fp8e4m3⟩
  | .local _ .vmem, ⟨4, _⟩ => ⟨S2x128x2048, .fp8e4m3⟩
  | .local _ .vmem, ⟨5, _⟩ => ⟨S2x360x2048, .bf16⟩
  | .local _ .vmem, ⟨6, _⟩ => ⟨S2x360x2048, .bf16⟩
  | .local _ .vmem, ⟨7, _⟩ => ⟨S2x128x2048, .bf16⟩
  | .local _ .vmem, ⟨8, _⟩ => ⟨S2x128x2048, .bf16⟩
  | .local _ .vmem, ⟨9, _⟩ => ⟨S2x360x2048, .fp8e4m3⟩
  | .local _ .vmem, ⟨10, _⟩ => ⟨S2x360x2048, .fp8e4m3⟩
  | .local _ .vmem, ⟨11, _⟩ => ⟨S9x2x40, .f32⟩
  | .local _ .vmem, ⟨12, _⟩ => ⟨S2x128x360, .bf16⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x9x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x360x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x360x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S9x2x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x12288 : Shape := ⟨3, ![2, 128, 12288]⟩
abbrev S2x128 : Shape := ⟨2, ![2, 128]⟩
abbrev S2x128x9x40 : Shape := ⟨4, ![2, 128, 9, 40]⟩
abbrev S2x128x9 : Shape := ⟨3, ![2, 128, 9]⟩
abbrev S2x9x40x12288 : Shape := ⟨4, ![2, 9, 40, 12288]⟩
abbrev S2x9x40 : Shape := ⟨3, ![2, 9, 40]⟩
abbrev S2x128x9x1 : Shape := ⟨4, ![2, 128, 9, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x128x12288, .fp8e4m3⟩
  | .hbm, ⟨1, _⟩ => ⟨S2x128, .f32⟩
  | .hbm, ⟨2, _⟩ => ⟨S2x128x9x40, .fp8e4m3⟩
  | .hbm, ⟨3, _⟩ => ⟨S2x128x9, .bf16⟩
  | .hbm, ⟨4, _⟩ => ⟨S2x9x40x12288, .bf16⟩
  | .hbm, ⟨5, _⟩ => ⟨S2x128x12288, .bf16⟩
  | .hbm, ⟨6, _⟩ => ⟨S2x9x40x12288, .fp8e4m3⟩
  | .hbm, ⟨7, _⟩ => ⟨S2x9x40, .f32⟩
  | .local _ .vmem, ⟨0, _⟩ => ⟨S2x128x12288, .fp8e4m3⟩
  | .local _ .vmem, ⟨1, _⟩ => ⟨S2x128, .f32⟩
  | .local _ .vmem, ⟨2, _⟩ => ⟨S2x128x9x40, .fp8e4m3⟩
  | .local _ .vmem, ⟨3, _⟩ => ⟨S2x128x9, .bf16⟩
  | .local _ .vmem, ⟨4, _⟩ => ⟨S2x9x40x12288, .bf16⟩
  | .local _ .vmem, ⟨5, _⟩ => ⟨S2x128x12288, .bf16⟩
  | .local _ .vmem, ⟨6, _⟩ => ⟨S2x9x40x12288, .fp8e4m3⟩
  | .local _ .vmem, ⟨7, _⟩ => ⟨S2x9x40, .f32⟩
  | _, _ => ⟨S2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x128x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x9x40 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x9x40x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x9x40x12288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x9x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Runs.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x20 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the first point output 7 is live: the body stores into it there. -/
theorem liveAt0_7_A : ∀ t : Fin cfg0.N, cond0_0 (grid0.coords t) → cfg0.idle 7 (grid0.coords t) = false := by decide +kernel
/-- At every later point output 7 is idle: the body does not touch its buffer. -/
theorem idleAt0_7_B : ∀ t : Fin cfg0.N, ¬cond0_0 (grid0.coords t) → cfg0.idle 7 (grid0.coords t) = true := by decide +kernel
/-- At every later point the buffer of output 7 still holds what the first point stored. -/
theorem notFresh0_7_B : ∀ t : Fin cfg0.N, ¬cond0_0 (grid0.coords t) → cfg0.fresh 7 t.val = false := by
  intro t; rw [fresh0_7_eq t]; revert t; decide +kernel

/-! ## The kernel body on any staging memrefs: a subtype the run finds -/

/-- One staging buffer of output window 5, through which its contents are stated (`View.read_writes_of_cover`: the
    choice does not matter). -/
abbrev VO0_5 : View sig .tc .vmem S2x128x2048 .bf16 := (Memref.whole cc0_stg5_0 : Memref sig .tc .vmem S2x128x2048 .bf16).view
/-- One staging buffer of output window 6, through which its contents are stated (`View.read_writes_of_cover`: the
    choice does not matter). -/
abbrev VO0_6 : View sig .tc .vmem S2x360x2048 .fp8e4m3 := (Memref.whole cc0_stg6_0 : Memref sig .tc .vmem S2x360x2048 .fp8e4m3).view
/-- One staging buffer of output window 7, through which its contents are stated (`View.read_writes_of_cover`: the
    choice does not matter). -/
abbrev VO0_7 : View sig .tc .vmem S9x2x40 .f32 := (Memref.whole cc0_stg7_0 : Memref sig .tc .vmem S9x2x40 .f32).view
/-- Each window's current staging memref at point `t`, spelled as the pipeline passes it (`bodyAt0`), and its wholeness. -/
abbrev ms0_0 (t : Fin cfg0.N) : Memref sig .tc .vmem S2x9x40x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x2x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x360x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x360x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S9x2x40 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x128x360 .bf16 := Memref.whole cc0_scratch0
/-- The scratch `arg9` the kernel carries between points, as a view: what it holds is stated through it. -/
abbrev VS0_0 : View sig .tc .vmem S2x128x360 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2x9x40x128 .fp8e4m3) (harg1 : arg1.IsWhole) (arg2 : Memref sig .tc .vmem S9x2x128 .bf16) (harg2 : arg2.IsWhole) (arg3 : Memref sig .tc .vmem S2x128 .f32) (harg3 : arg3.IsWhole) (arg4 : Memref sig .tc .vmem S2x128x2048 .fp8e4m3) (harg4 : arg4.IsWhole) (arg5 : Memref sig .tc .vmem S2x360x2048 .bf16) (harg5 : arg5.IsWhole) (arg6 : Memref sig .tc .vmem S2x128x2048 .bf16) (harg6 : arg6.IsWhole) (arg7 : Memref sig .tc .vmem S2x360x2048 .fp8e4m3) (harg7 : arg7.IsWhole) (arg8 : Memref sig .tc .vmem S9x2x40 .f32) (harg8 : arg8.IsWhole) (arg9 : Memref sig .tc .vmem S2x128x360 .bf16) (harg9 : arg9.IsWhole) (hc0 : cond0_0 i)
    (x0 : Vec F S2x9x40x128 .fp8e4m3) (x1 : Vec F S9x2x128 .bf16) (x2 : Vec F S2x128 .f32) (x3 : Vec F S2x128x2048 .fp8e4m3) (x4 : Vec F S2x360x2048 .bf16) :
    Σ' (L5 : List (View.Piece (Elt F) S2x128x2048 .bf16)), Σ' (L6 : List (View.Piece (Elt F) S2x360x2048 .fp8e4m3)), Σ' (L7 : List (View.Piece (Elt F) S9x2x40 .f32)), { LS0 : List (View.Piece (Elt F) S2x128x360 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_moe_dispatch_combine i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_moe_dispatch_combine_eq_skeleton]; unfold cc0_moe_dispatch_combine_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.KernelIdeal.Hand

end
-- ==== Proof.RunB.lean ====
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, 3, 4, 5), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2x9x40x128 .fp8e4m3) (harg1 : arg1.IsWhole) (arg2 : Memref sig .tc .vmem S9x2x128 .bf16) (harg2 : arg2.IsWhole) (arg3 : Memref sig .tc .vmem S2x128 .f32) (harg3 : arg3.IsWhole) (arg4 : Memref sig .tc .vmem S2x128x2048 .fp8e4m3) (harg4 : arg4.IsWhole) (arg5 : Memref sig .tc .vmem S2x360x2048 .bf16) (harg5 : arg5.IsWhole) (arg6 : Memref sig .tc .vmem S2x128x2048 .bf16) (harg6 : arg6.IsWhole) (arg7 : Memref sig .tc .vmem S2x360x2048 .fp8e4m3) (harg7 : arg7.IsWhole) (arg8 : Memref sig .tc .vmem S9x2x40 .f32) (harg8 : arg8.IsWhole) (arg9 : Memref sig .tc .vmem S2x128x360 .bf16) (harg9 : arg9.IsWhole) (hc0 : ¬cond0_0 i)
    (x0 : Vec F S2x9x40x128 .fp8e4m3) (x1 : Vec F S9x2x128 .bf16) (x2 : Vec F S2x128 .f32) (x3 : Vec F S2x128x2048 .fp8e4m3) (x4 : Vec F S2x360x2048 .bf16) (xo7 : Vec F S9x2x40 .f32) (xs0 : Vec F S2x128x360 .bf16) :
    Σ' (L5 : List (View.Piece (Elt F) S2x128x2048 .bf16)), Σ' (L6 : List (View.Piece (Elt F) S2x360x2048 .fp8e4m3)), { _u : Unit //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xo7 ∗ owns (c : Thread nD τ) arg9 fullShare xs0) -∗ K ⟨⟩))
          ⊢ wp frame (wpE (defs₀ (F := F)) Variants.none c none) E (cc0_moe_dispatch_combine i arg1 harg1 arg2 harg2 arg3 harg3 arg4 harg4 arg5 harg5 arg6 harg6 arg7 harg7 arg8 harg8 arg9 harg9) K } := by
  refine ⟨?_, ?_, (), fun E K => ?run⟩
  case run =>
    simp only [cc0_moe_dispatch_combine_eq_skeleton]; unfold cc0_moe_dispatch_combine_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    iexists _; isplitr; · ipureintro; exact harg9.read_unread _
    iexact HS0

end Cert.KernelIdeal.Hand

end
-- ==== Proof.Region.lean ====
module

public import proofs.«01_k».proof.Proof.RunB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The first point of the grid. -/
abbrev t0 : Fin cfg0.N := ⟨0, lt_of_lt_of_eq (by decide : 0 < 6) (show cfg0.N = 6 from N_0).symm⟩

theorem t0_mod : t0.val % 6 = 0 := rfl

theorem eq_t0 (t : Fin cfg0.N) (h : t.val % 6 = 0) : t = t0 := by
  have hN : t.val < 6 := lt_of_lt_of_eq t.isLt (show cfg0.N = 6 from N_0)
  exact Fin.ext (show t.val = 0 by omega)

/-- The body's run at the first point, on the point's blocks. -/
abbrev runA (c : Dev nD) (t : Fin cfg0.N) (h0 : t.val % 6 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)

/-- The body's run at a later point, on the point's blocks, the scratch at `xs`. -/
abbrev runB (c : Dev nD) (t : Fin cfg0.N) (h0 : ¬t.val % 6 = 0) (xo : Vec F S9x2x40 .f32) (xs : Vec F S2x128x360 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) xo xs

theorem coverA5 (c : Dev nD) (t : Fin cfg0.N) (h0 : t.val % 6 = 0) (y : S2x128x2048.Idx) :
    ∃ pc ∈ (runA m c t h0).1, y ∈ pc.1.set :=
  View.cover_of_tiledL (runA m c t h0).1 S1x128x2048.size (by sl_kernel_rfl) y

theorem coverA6 (c : Dev nD) (t : Fin cfg0.N) (h0 : t.val % 6 = 0) (y : S2x360x2048.Idx) :
    ∃ pc ∈ (runA m c t h0).2.1, y ∈ pc.1.set :=
  View.cover_of_tiledL (runA m c t h0).2.1 S1x360x2048.size (by sl_kernel_rfl) y

theorem coverA7 (c : Dev nD) (t : Fin cfg0.N) (h0 : t.val % 6 = 0) (y : S9x2x40.Idx) :
    ∃ pc ∈ (runA m c t h0).2.2.1, y ∈ pc.1.set :=
  View.cover_of_tiledL (runA m c t h0).2.2.1 S1x1x40.size (by sl_kernel_rfl) y

theorem coverAS (c : Dev nD) (t : Fin cfg0.N) (h0 : t.val % 6 = 0) (y : S2x128x360.Idx) :
    ∃ pc ∈ (runA m c t h0).2.2.2.1, y ∈ pc.1.set :=
  View.cover_of_tiledL (runA m c t h0).2.2.2.1 S1x128x360.size (by sl_kernel_rfl) y

theorem coverB5 (c : Dev nD) (t : Fin cfg0.N) (h0 : ¬t.val % 6 = 0) (xo xs) (y : S2x128x2048.Idx) :
    ∃ pc ∈ (runB m c t h0 xo xs).1, y ∈ pc.1.set :=
  View.cover_of_tiledL (runB m c t h0 xo xs).1 S1x128x2048.size (by sl_kernel_rfl) y

theorem coverB6 (c : Dev nD) (t : Fin cfg0.N) (h0 : ¬t.val % 6 = 0) (xo xs) (y : S2x360x2048.Idx) :
    ∃ pc ∈ (runB m c t h0 xo xs).2.1, y ∈ pc.1.set :=
  View.cover_of_tiledL (runB m c t h0 xo xs).2.1 S1x360x2048.size (by sl_kernel_rfl) y

/-! ## What the buffers hold after each point -/

/-- The combine weights the first point leaves in the scratch; no later point changes them. -/
def wAt (c : Dev nD) : Vec F S2x128x360 .bf16 :=
  VS0_0.read (Elt F) (VS0_0.writes (Elt F) VS0_0.junk (runA m c t0 t0_mod).2.2.2.1)

/-- The scales the first point leaves in the third output's buffer; no later point changes them. -/
def scAt (c : Dev nD) : Vec F S9x2x40 .f32 :=
  VO0_7.read (Elt F) (VO0_7.writes (Elt F) VO0_7.junk (runA m c t0 t0_mod).2.2.1)

/-- The block of `y` that point `t` leaves. -/
def yAt (c : Dev nD) (t : Fin cfg0.N) : Vec F S2x128x2048 .bf16 :=
  if h0 : t.val % 6 = 0 then VO0_5.read (Elt F) (VO0_5.writes (Elt F) VO0_5.junk (runA m c t h0).1)
  else VO0_5.read (Elt F) (VO0_5.writes (Elt F) VO0_5.junk (runB m c t h0 (scAt m c) (wAt m c)).1)

/-- The block of the codes that point `t` leaves. -/
def cdAt (c : Dev nD) (t : Fin cfg0.N) : Vec F S2x360x2048 .fp8e4m3 :=
  if h0 : t.val % 6 = 0 then VO0_6.read (Elt F) (VO0_6.writes (Elt F) VO0_6.junk (runA m c t h0).2.1)
  else VO0_6.read (Elt F) (VO0_6.writes (Elt F) VO0_6.junk (runB m c t h0 (scAt m c) (wAt m c)).2.1)

/-- The region invariant before position `n`: the scratch at anything before the first point, at the combine weights
    afterwards; the generator register at some state. -/
def PhiS (c : Dev nD) : ℕ → sProp 𝕄
  | 0 => Pipeline.ΦA spec0 c
  | n + 1 => iprop(iprop(owns (c : Thread nD τ) scM0_0 fullShare (wAt m c)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (wAt m c)) ∗ (∃ r, prngReg c r)) := rfl

theorem PhiS_pos (c : Dev nD) (n : ℕ) (hz : n ≠ 0) :
    PhiS m c n = iprop(iprop(owns (c : Thread nD τ) scM0_0 fullShare (wAt m c)) ∗ (∃ r, prngReg c r)) := by
  cases n with
  | zero => exact absurd rfl hz
  | succ n => rfl

/-! ## The pipeline's proof data -/

/-- The proof data of the one pipeline on core `c`: after the body each input's buffer holds its block, the outputs'
    buffers hold `yAt`, `cdAt` and `scAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => cdAt m c t
    | ⟨7, _⟩ => scAt m c
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = cdAt m c t := by dsimp only [dats]
theorem after0_7 (c : Dev nD) (t : Fin cfg0.N) : (dats m 0 c).after 7 t = scAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a later point the buffer of output 7 holds the scales the first point stored. -/
theorem before0_7_B (c : Dev nD) (t : Fin cfg0.N) (h0 : ¬t.val % 6 = 0) (d) :
    (dats m 0 c).before 7 t d = scAt m c := by
  rw [Dat.before_out_traj _ 7 rfl (fun _ _ => rfl) (fun t _ _ _ => by rw [after0_7, after0_7]) t.val t rfl d,
    if_neg (by rw [notFresh0_7_B t (fun h => h0 ((hcond0_0 t).mp h))]; exact Bool.false_ne_true)]
  dsimp only [dats]

/-- At a later point the obligation for output 7 is met by its buffer at the scales, written back there or not. -/
theorem leaves7_B (c : Dev nD) (t : Fin cfg0.N) (h0 : ¬t.val % 6 = 0) :
    owns (c : Thread nD τ) (ms0_7 t) fullShare (scAt m c) ⊢ (dats m 0 c).leavesExact 7 t := by
  have hi := idleAt0_7_B t (fun h => h0 ((hcond0_0 t).mp h))
  cases hf : (cfg0.win 7).flush t
  · rw [(dats m 0 c).leavesExact_idle 7 t hi hf]
    simp only [before0_7_B m c t h0]
    iintro H
    iexists (fun _ => default)
    iexact H
  · unfold Dat.leavesExact
    rw [hi, hf, after0_7]

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: at the first point the run that stores the scales and the combine weights, at the others the
    run that reads the weights and leaves the scales' buffer alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 6 = 0
  · rw [show (dats m 0 c).leavesExact 7 t = owns (c : Thread nD τ) (ms0_7 t) fullShare ((dats m 0 c).after 7 t) from by
      unfold Dat.leavesExact; rw [liveAt0_7_A t ((hcond0_0 t).mpr h0)], after0_7]
    obtain rfl := eq_t0 t h0
    rw [Phi_castSucc m c t0, PhiS_zero m c _ rfl, PhiA0_eq]
    unfold yAt cdAt scAt wAt
    rw [dif_pos h0, dif_pos h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA m c t0 h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (coverAS m c t0 h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA5 m c t0 h0)
    isplitl [H6]
    · unfold owns; iexists _; isplitr
      swap; · iexact H6
      ipureintro; exact View.read_writes_of_cover _ _ _ _ _ (coverA6 m c t0 h0)
    unfold owns; iexists _; isplitr
    swap; · iexact H7
    ipureintro; exact View.read_writes_of_cover _ _ _ _ _ (coverA7 m c t0 h0)
  · have hz : t.val ≠ 0 := fun h => h0 (by rw [h])
    rw [Phi_castSucc m c t, PhiS_pos m c _ hz]
    simp only [before0_7_B m c t h0]
    unfold yAt cdAt
    rw [dif_neg h0, dif_neg h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h0 (scAt m c) (wAt m c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverB5 m c t h0 _ _)
    isplitl [H6]
    · unfold owns; iexists _; isplitr
      swap; · iexact H6
      ipureintro; exact View.read_writes_of_cover _ _ _ _ _ (coverB6 m c t h0 _ _)
    iapply (leaves7_B m c t h0)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Hand.facts, fun m ρ _ => Cert.KernelIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.KernelFrame.lean ====
module

public import proofs.«01_k».proof.Defs
public import proofs.«01_k».proof.Proof.Gen.Kernel
public import proofs.«01_k».proof.Proof.Region
public import Idealize.ShloMosaic.Lib.Tactic

/-! The frame of `Kernel`. The two printed programs have one text, so the frame shown for the second at every
    float instance is, at `Bits`, the frame of the first. -/

@[expose] public section

set_option maxRecDepth 16384

noncomputable section

namespace Cert.Proof

open Idealize.ShloMosaic Idealize.ShloMosaic.Tactic Idealize.SL.Sem

/-- `Kernel` runs, leaves its arguments as they were, and ends with every counter at zero. -/
theorem frame_kernel : Cert.quiescent_Kernel (hKernel := Cert.Kernel.Gen.facts) := by
  refine Eq.mpr (?_ : _ = _) (fun m ρ (_ : True) => Cert.KernelIdeal.Hand.frame (F := Bits) m ρ)
  sl_kernel_rfl

end Cert.Proof

end
-- ==== Proof.Blocks.lean ====
module

public import proofs.«01_k».proof.Proof.Region
public import Idealize.ShloMosaic.Lib.Pipeline.ReadBack
public import Idealize.ShloMosaic.Lib.Pipeline.ValueKit
public import Idealize.ShloMosaic.Lib.Pointwise

/-! What the body's stores leave in each block over the extended reals, as plain sums over the blocks the body reads. -/

@[expose] public section

set_option maxRecDepth 16384

noncomputable section

namespace Cert.KernelIdeal.Hand

open Cert.KernelIdeal Cert.KernelIdeal.Gen
open Idealize.ShloMosaic Idealize.ShloMosaic.TcCoe
open Idealize.SL.Sem

/-! ## The four block values -/

/-- The combine weights from the mask block and the gates block: row `k` of the scratch is expert `k / 40`, capacity slot
    `k % 40`. -/
def W (x0 : Vec Ideal S2x9x40x128 .fp8e4m3) (x1 : Vec Ideal S9x2x128 .bf16) : Vec Ideal S2x128x360 .bf16 :=
  fun i => x0 (ix4 (i 0) ⟨(i 2).val / 40, Nat.div_lt_of_lt_mul (i 2).isLt⟩ ⟨(i 2).val % 40, Nat.mod_lt _ (by decide)⟩ (i 1))
    * x1 (ix3 ⟨(i 2).val / 40, Nat.div_lt_of_lt_mul (i 2).isLt⟩ (i 0) (i 1))

/-- The scales block from the mask block and the scales rows. -/
def SC (x0 : Vec Ideal S2x9x40x128 .fp8e4m3) (x2 : Vec Ideal S2x128 .f32) : Vec Ideal S9x2x40 .f32 :=
  fun i => ∑ s : Fin 128, x0 (ix4 (i 1) (i 0) (i 2) s) * x2 (ix2 (i 1) s)

/-- The block of `y` from the combine weights and the expert outputs block. -/
def Y (w : Vec Ideal S2x128x360 .bf16) (x4 : Vec Ideal S2x360x2048 .bf16) : Vec Ideal S2x128x2048 .bf16 :=
  fun i => ∑ k : Fin 360, w (ix3 (i 0) (i 1) k) * x4 (ix3 (i 0) k (i 2))

/-- The block of the codes from the mask block and the codes block. -/
def CD (x0 : Vec Ideal S2x9x40x128 .fp8e4m3) (x3 : Vec Ideal S2x128x2048 .fp8e4m3) : Vec Ideal S2x360x2048 .fp8e4m3 :=
  fun i => ∑ s : Fin 128, x0 (ix4 (i 0) ⟨(i 1).val / 40, Nat.div_lt_of_lt_mul (i 1).isLt⟩ ⟨(i 1).val % 40, Nat.mod_lt _ (by decide)⟩ s)
    * x3 (ix3 (i 0) s (i 2))

/-! ## The pieces the two runs store, read as blocks -/

variable (c : Dev nD) (t : Fin cfg0.N)
variable (x0 : Vec Ideal S2x9x40x128 .fp8e4m3) (x1 : Vec Ideal S9x2x128 .bf16) (x2 : Vec Ideal S2x128 .f32)
  (x3 : Vec Ideal S2x128x2048 .fp8e4m3) (x4 : Vec Ideal S2x360x2048 .bf16)

/-- The run at the first point over any block contents. -/
abbrev runA0 (h0 : t.val % 6 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) x0 x1 x2 x3 x4

/-- The run at a later point over any block contents. -/
abbrev runB0 (h0 : ¬t.val % 6 = 0) (xo : Vec Ideal S9x2x40 .f32) (xs : Vec Ideal S2x128x360 .bf16) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) x0 x1 x2 x3 x4 xo xs

set_option maxHeartbeats 1000000 in
theorem canonA_scratch (h0 : t.val % 6 = 0) : View.canon (runA0 c t x0 x1 x2 x3 x4 h0).2.2.2.1 = W x0 x1 := by
  funext i
  unfold runA0
  frame_open
  simp only [View.readAt_eq_ld, Memref.IsWhole.read_unread, read_unread_whole]
  idx_vars i
  canon_tiles x h
  all_goals unfold_payloads
  all_goals idx_vars x
  all_goals pointwise [W]
  all_goals split_ifs
  all_goals congr 1 <;> blk_ext

theorem canonA_scales (h0 : t.val % 6 = 0) : View.canon (runA0 c t x0 x1 x2 x3 x4 h0).2.2.1 = SC x0 x2 := by
  funext i
  unfold runA0
  frame_open
  simp only [View.readAt_eq_ld, Memref.IsWhole.read_unread, read_unread_whole]
  idx_vars i
  canon_tiles x h
  all_goals unfold_payloads
  all_goals idx_vars x
  all_goals pointwise [SC]
  all_goals refine Finset.sum_congr rfl fun s _ => ?_
  all_goals congr 1 <;> blk_ext

theorem canonA_codes (h0 : t.val % 6 = 0) : View.canon (runA0 c t x0 x1 x2 x3 x4 h0).2.1 = CD x0 x3 := by
  funext i
  unfold runA0
  frame_open
  simp only [View.readAt_eq_ld, Memref.IsWhole.read_unread, read_unread_whole]
  idx_vars i
  canon_tiles x h
  all_goals unfold_payloads
  all_goals idx_vars x
  all_goals pointwise [CD]
  all_goals refine Finset.sum_congr rfl fun s _ => ?_
  all_goals congr 1 <;> blk_ext

theorem canonB_codes (h0 : ¬t.val % 6 = 0) (xo xs) : View.canon (runB0 c t x0 x1 x2 x3 x4 h0 xo xs).2.1 = CD x0 x3 := by
  funext i
  unfold runB0
  frame_open
  simp only [View.readAt_eq_ld, Memref.IsWhole.read_unread, read_unread_whole]
  idx_vars i
  canon_tiles x h
  all_goals unfold_payloads
  all_goals idx_vars x
  all_goals pointwise [CD]
  all_goals refine Finset.sum_congr rfl fun s _ => ?_
  all_goals congr 1 <;> blk_ext

theorem canonA_y (h0 : t.val % 6 = 0) : View.canon (runA0 c t x0 x1 x2 x3 x4 h0).1 = Y (W x0 x1) x4 := by
  have hW := canonA_scratch c t x0 x1 x2 x3 x4 h0
  unfold runA0 at hW
  frame_open at hW
  simp only [View.readAt_eq_ld, Memref.IsWhole.read_unread] at hW
  funext i
  unfold runA0
  frame_open
  simp only [View.readAt_eq_ld, Memref.IsWhole.read_unread, read_unread_whole]
  simp only [View.readCov_eq_canon', hW]
  clear hW
  generalize W x0 x1 = w
  idx_vars i
  canon_tiles x h
  all_goals unfold_payloads
  all_goals idx_vars x
  all_goals pointwise [Y]
  all_goals refine Finset.sum_congr rfl fun s _ => ?_
  all_goals congr 1 <;> blk_ext

theorem canonB_y (h0 : ¬t.val % 6 = 0) (xo xs) : View.canon (runB0 c t x0 x1 x2 x3 x4 h0 xo xs).1 = Y xs x4 := by
  funext i
  unfold runB0
  frame_open
  simp only [View.readAt_eq_ld, Memref.IsWhole.read_unread, read_unread_whole]
  idx_vars i
  canon_tiles x h
  all_goals unfold_payloads
  all_goals idx_vars x
  all_goals pointwise [Y]
  all_goals refine Finset.sum_congr rfl fun s _ => ?_
  all_goals congr 1 <;> blk_ext

end Cert.KernelIdeal.Hand

end
-- ==== Proof.Arrays.lean ====
module

public import proofs.«01_k».proof.Proof.Blocks
public import Idealize.ShloMosaic.Lib.StableHlo.ReadAt

/-! The arrays after the run over the extended reals, as sums over the arguments. -/

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

theorem wAt_eq (c : Dev nD) : wAt (F := Ideal) m c = W (iblk m c 0 t0) (iblk m c 1 t0) := by
  unfold wAt
  rw [View.read_writes_junk_eq_canon]
  exact canonA_scratch c t0 _ _ _ _ _ t0_mod

theorem scAt_eq (c : Dev nD) : scAt (F := Ideal) m c = SC (iblk m c 0 t0) (iblk m c 2 t0) := by
  unfold scAt
  rw [View.read_writes_junk_eq_canon]
  exact canonA_scales c t0 _ _ _ _ _ t0_mod

theorem cdAt_eq (c : Dev nD) (t : Fin cfg0.N) : cdAt (F := Ideal) m c t = CD (iblk m c 0 t) (iblk m c 3 t) := by
  unfold cdAt
  split
  next h0 => rw [View.read_writes_junk_eq_canon]; exact canonA_codes c t _ _ _ _ _ h0
  next h0 => rw [View.read_writes_junk_eq_canon]; exact canonB_codes c t _ _ _ _ _ h0 _ _

theorem yAt_eq (c : Dev nD) (t : Fin cfg0.N) :
    yAt (F := Ideal) m c t = Y (W (iblk m c 0 t0) (iblk m c 1 t0)) (iblk m c 4 t) := by
  unfold yAt
  split
  next h0 =>
    obtain rfl := eq_t0 t h0
    rw [View.read_writes_junk_eq_canon]; exact canonA_y c t0 _ _ _ _ _ t0_mod
  next h0 => rw [View.read_writes_junk_eq_canon, wAt_eq]; exact canonB_y c t _ _ _ _ _ h0 _ _

/-- The array of `y` from the mask, the gates and the expert outputs. -/
def GY (a2 : Vec Ideal S2x128x9x40 .fp8e4m3) (a3 : Vec Ideal S2x128x9 .bf16) (a4 : Vec Ideal S2x9x40x12288 .bf16) : Vec Ideal S2x128x12288 .bf16 :=
  fun i => ∑ k : Fin 360, a2 (ix4 (i 0) (i 1) ⟨k.val / 40, Nat.div_lt_of_lt_mul k.isLt⟩ ⟨k.val % 40, Nat.mod_lt _ (by decide)⟩)
    * a3 (ix3 (i 0) (i 1) ⟨k.val / 40, Nat.div_lt_of_lt_mul k.isLt⟩)
    * a4 (ix4 (i 0) ⟨k.val / 40, Nat.div_lt_of_lt_mul k.isLt⟩ ⟨k.val % 40, Nat.mod_lt _ (by decide)⟩ (i 2))

/-- The array of the codes, experts and slots on one axis, from the codes and the mask. -/
def GC (a0 : Vec Ideal S2x128x12288 .fp8e4m3) (a2 : Vec Ideal S2x128x9x40 .fp8e4m3) : Vec Ideal S2x360x12288 .fp8e4m3 :=
  fun i => ∑ s : Fin 128, a2 (ix4 (i 0) s ⟨(i 1).val / 40, Nat.div_lt_of_lt_mul (i 1).isLt⟩ ⟨(i 1).val % 40, Nat.mod_lt _ (by decide)⟩)
    * a0 (ix3 (i 0) s (i 2))

/-- The array of the scales, experts first, from the scales and the mask. -/
def GS (a1 : Vec Ideal S2x128 .f32) (a2 : Vec Ideal S2x128x9x40 .fp8e4m3) : Vec Ideal S9x2x40 .f32 :=
  fun i => ∑ s : Fin 128, a2 (ix4 (i 1) s (i 0) (i 2)) * a1 (ix2 (i 1) s)

/-- Where each window's block lies, point by point. -/
theorem idx (t : Fin cfg0.N) : win0_0.index t = ![0, 0, 0, 0] ∧ win0_1.index t = ![0, 0, 0] ∧ win0_2.index t = ![0, 0]
    ∧ win0_3.index t = ![0, 0, t.val] ∧ win0_4.index t = ![0, 0, t.val] ∧ win0_5.index t = ![0, 0, t.val]
    ∧ win0_6.index t = ![0, 0, t.val] ∧ win0_7.index t = ![0, 0, 0] := by
  revert t; decide +kernel

/-- The mask as the region finds it: the argument, sequence position last. -/
theorem V_v0 (c : Dev nD) (j : S2x9x40x128.Idx) :
    V m c main_v0 j = m ((c : Thread nD τ).loc main_arg2) (ix4 (j 0) (j 3) (j 1) (j 2)) := by
  unfold V V0
  simp only [hostOps0, List.flatten_cons, List.flatten_nil, List.append_nil]
  after_reads_at

/-- The gates as the region finds them: the argument, expert first. -/
theorem V_v1 (c : Dev nD) (j : S9x2x128.Idx) :
    V m c main_v1 j = m ((c : Thread nD τ).loc main_arg3) (ix3 (j 1) (j 2) (j 0)) := by
  unfold V V0
  simp only [hostOps0, List.flatten_cons, List.flatten_nil, List.append_nil]
  after_reads_at

/-- The expert outputs as the region finds them: the argument, experts and slots on one axis. -/
theorem V_v2 (c : Dev nD) (j : S2x360x12288.Idx) :
    V m c main_v2 j = m ((c : Thread nD τ).loc main_arg4)
      (ix4 (j 0) ⟨(j 1).val / 40, Nat.div_lt_of_lt_mul (j 1).isLt⟩ ⟨(j 1).val % 40, Nat.mod_lt _ (by decide)⟩ (j 2)) := by
  unfold V V0
  simp only [hostOps0, List.flatten_cons, List.flatten_nil, List.append_nil]
  after_reads_at

/-- The mask block at any point is the mask, sequence position last. -/
theorem iblk0 (c : Dev nD) (t : Fin cfg0.N) (g : Fin 2) (e : Fin 9) (k : Fin 40) (s : Fin 128) :
    iblk m c 0 t (ix4 g e k s) = m ((c : Thread nD τ).loc main_arg2) (ix4 g s e k) := by
  unfold iblk
  show V m c main_v0 _ = _
  rw [V_v0]
  blk_ext [idx t]

theorem iblk1 (c : Dev nD) (t : Fin cfg0.N) (g : Fin 2) (e : Fin 9) (s : Fin 128) :
    iblk m c 1 t (ix3 e g s) = m ((c : Thread nD τ).loc main_arg3) (ix3 g s e) := by
  unfold iblk
  show V m c main_v1 _ = _
  rw [V_v1]
  blk_ext [idx t]

theorem iblk2 (c : Dev nD) (t : Fin cfg0.N) (g : Fin 2) (s : Fin 128) :
    iblk m c 2 t (ix2 g s) = m ((c : Thread nD τ).loc main_arg1) (ix2 g s) := by
  blk_ext [iblk, V, idx t]

theorem iblk3 (c : Dev nD) (t : Fin cfg0.N) (g : Fin 2) (s : Fin 128) (d : Fin 2048) (d' : Fin 12288) (h : d'.val = t.val * 2048 + d.val) :
    iblk m c 3 t (ix3 g s d) = m ((c : Thread nD τ).loc main_arg0) (ix3 g s d') := by
  blk_ext [iblk, V, idx t]

theorem iblk4 (c : Dev nD) (t : Fin cfg0.N) (g : Fin 2) (k : Fin 360) (d : Fin 2048) (d' : Fin 12288) (h : d'.val = t.val * 2048 + d.val) :
    iblk m c 4 t (ix3 g k d) = m ((c : Thread nD τ).loc main_arg4)
      (ix4 g ⟨k.val / 40, Nat.div_lt_of_lt_mul k.isLt⟩ ⟨k.val % 40, Nat.mod_lt _ (by decide)⟩ d') := by
  unfold iblk
  show V m c main_v2 _ = _
  rw [V_v2]
  blk_ext [idx t]

/-- A block of the codes is the array's, at the place where the point's block lies. -/
theorem CD_apply (c : Dev nD) (t : Fin cfg0.N) (y : S2x360x2048.Idx) (i : S2x360x12288.Idx)
    (h0 : (i 0).val = (y 0).val) (h1 : (i 1).val = (y 1).val) (h2 : (i 2).val = t.val * 2048 + (y 2).val) :
    CD (iblk m c 0 t) (iblk m c 3 t) y = GC (m ((c : Thread nD τ).loc main_arg0)) (m ((c : Thread nD τ).loc main_arg2)) i := by
  idx_vars y
  idx_vars i
  obtain rfl := Fin.ext h0
  obtain rfl := Fin.ext h1
  exact Finset.sum_congr rfl fun s _ => congrArg₂ (· * ·) (iblk0 m c t _ _ _ _) (iblk3 m c t _ _ _ _ h2)

/-- A block of `y` is the array's, at the place where the point's block lies. -/
theorem Y_apply (c : Dev nD) (t : Fin cfg0.N) (y : S2x128x2048.Idx) (i : S2x128x12288.Idx)
    (h0 : (i 0).val = (y 0).val) (h1 : (i 1).val = (y 1).val) (h2 : (i 2).val = t.val * 2048 + (y 2).val) :
    Y (W (iblk m c 0 t0) (iblk m c 1 t0)) (iblk m c 4 t) y
      = GY (m ((c : Thread nD τ).loc main_arg2)) (m ((c : Thread nD τ).loc main_arg3)) (m ((c : Thread nD τ).loc main_arg4)) i := by
  idx_vars y
  idx_vars i
  obtain rfl := Fin.ext h0
  obtain rfl := Fin.ext h1
  exact Finset.sum_congr rfl fun k _ => congrArg₂ (· * ·)
    (congrArg₂ (· * ·) (iblk0 m c t0 _ _ _ _) (iblk1 m c t0 _ _ _)) (iblk4 m c t _ _ _ _ h2)

/-- The scales block is the whole array. -/
theorem SC_apply (c : Dev nD) (y i : S9x2x40.Idx)
    (h0 : (i 0).val = (y 0).val) (h1 : (i 1).val = (y 1).val) (h2 : (i 2).val = (y 2).val) :
    SC (iblk m c 0 t0) (iblk m c 2 t0) y
      = GS (m ((c : Thread nD τ).loc main_arg1)) (m ((c : Thread nD τ).loc main_arg2)) i := by
  idx_vars y
  idx_vars i
  obtain rfl := Fin.ext h0
  obtain rfl := Fin.ext h1
  obtain rfl := Fin.ext h2
  exact Finset.sum_congr rfl fun s _ => congrArg₂ (· * ·) (iblk0 m c t0 _ _ _ _) (iblk2 m c t0 _ _)

theorem final5 (c : Dev nD) : (dats m 0 c).arrAt 5 cfg0.N
    = GY (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, yAt_eq]
  refine Y_apply m c t y _ ?_ ?_ ?_ <;> blk_simp [idx t] <;> simp

theorem final6 (c : Dev nD) : (dats m 0 c).arrAt 6 cfg0.N
    = GC (m ((c : Thread nD τ).loc main_arg0)) (m ((c : Thread nD τ).loc main_arg2)) := by
  refine (dats m 0 c).arrAt_eq_of_covers 6 _ (by decide +kernel) fun t hf y => ?_
  blk_simp
  rw [after0_6, cdAt_eq]
  refine CD_apply m c t y _ ?_ ?_ ?_ <;> blk_simp [idx t] <;> simp

theorem final7 (c : Dev nD) : (dats m 0 c).arrAt 7 cfg0.N
    = GS (m ((c : Thread nD τ).loc main_arg1)) (m ((c : Thread nD τ).loc main_arg2)) := by
  refine (dats m 0 c).arrAt_eq_of_covers 7 _ (by decide +kernel) fun t hf y => ?_
  blk_simp
  rw [after0_7, scAt_eq]
  refine SC_apply m c y _ ?_ ?_ ?_ <;> blk_simp [idx t] <;> simp

/-- The second result: the codes with experts and slots on two axes. -/
theorem tail4 (c : Dev nD) : Pipeline.afterTail₀ cfgs (dats m) 0 (V0 m) [hostOps1] c main_v4
    = shapeCast S2x9x40x12288 (GC (m ((c : Thread nD τ).loc main_arg0)) (m ((c : Thread nD τ).loc main_arg2))) shapeCasts_S2x360x12288_S2x9x40x12288 := by
  unfold Pipeline.afterTail₀
  rw [← final6]
  simp only [hostOps1, List.flatten_cons, List.flatten_nil, List.append_nil]
  after_results
  exact congrArg (shapeCast S2x9x40x12288 · shapeCasts_S2x360x12288_S2x9x40x12288)
    (Pipeline.withArrays_arr spec0 (by decide) c (V0 m c) (fun w => (dats m 0 c).arrAt w cfg0.N) 6)

/-- The third result: the scales, group first. -/
theorem tail5 (c : Dev nD) : Pipeline.afterTail₀ cfgs (dats m) 0 (V0 m) [hostOps1] c main_v5
    = transpose S2x9x40 [1, 0, 2] (GS (m ((c : Thread nD τ).loc main_arg1)) (m ((c : Thread nD τ).loc main_arg2))) transposes_S9x2x40_S2x9x40_1_0_2 := by
  unfold Pipeline.afterTail₀
  rw [← final7]
  simp only [hostOps1, List.flatten_cons, List.flatten_nil, List.append_nil]
  after_results
  exact congrArg (transpose S2x9x40 [1, 0, 2] · transposes_S9x2x40_S2x9x40_1_0_2)
    (Pipeline.withArrays_arr spec0 (by decide) c (V0 m c) (fun w => (dats m 0 c).arrAt w cfg0.N) 7)

/-- The run with its three results: each a function of the arguments, which end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3_0)
        = GY (m ((c : Thread nD τ).loc main_arg2)) (m ((c : Thread nD τ).loc main_arg3)) (m ((c : Thread nD τ).loc main_arg4))
      ∧ r.2.mem ((c.tc : Thread nD τ).loc main_v4)
        = shapeCast S2x9x40x12288 (GC (m ((c : Thread nD τ).loc main_arg0)) (m ((c : Thread nD τ).loc main_arg2))) shapeCasts_S2x360x12288_S2x9x40x12288
      ∧ r.2.mem ((c.tc : Thread nD τ).loc main_v5)
        = transpose S2x9x40 [1, 0, 2] (GS (m ((c : Thread nD τ).loc main_arg1)) (m ((c : Thread nD τ).loc main_arg2))) transposes_S9x2x40_S2x9x40_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c),
      ((h.1 c).2 main_v4 (Pipeline.mem_restRefs_of main_v4 (by decide) (by decide))).trans (tail4 m c),
      ((h.1 c).2 main_v5 (Pipeline.mem_restRefs_of main_v5 (by decide) (by decide))).trans (tail5 m c),
      h.2 c⟩)
    (θ_run_and (run_main m ρ) (unchanged m ρ))

end Cert.KernelIdeal.Hand

end
-- ==== Proof.Algebra.lean ====
module

public import proofs.«01_k».proof.Defs
public import proofs.«01_k».proof.Proof.Arrays
public import proofs.«01_k».proof.Proof.Gen.ReferenceIdeal.Value

/-! The three results meet the reference's. -/

@[expose] public section

set_option maxRecDepth 16384

noncomputable section

namespace Cert.Proof

open Idealize.ShloMosaic Cert.KernelIdeal Cert.KernelIdeal.Hand

variable (a0 : Vec Ideal S2x128x12288 .fp8e4m3) (a1 : Vec Ideal S2x128 .f32) (a2 : Vec Ideal S2x128x9x40 .fp8e4m3)
  (a3 : Vec Ideal S2x128x9 .bf16) (a4 : Vec Ideal S2x9x40x12288 .bf16)

/-- The combined tokens: the sum over experts and slots is the sum over the flattened slot axis. -/
theorem y_eq : Cert.ReferenceIdeal.Value.G5 a0 a1 a2 a3 a4 = GY a2 a3 a4 := by
  funext i
  idx_vars i
  unfold Cert.ReferenceIdeal.Value.G5
  unfold_payloads
  pointwise [GY]
  refine (Fin.sum_divmod_congr (A := 9) (S := 40) (fun t ha hs => ?_)).symm
  rfl

/-- The dispatched codes, the flattened slot axis split into experts and slots. -/
theorem codes_eq : Cert.ReferenceIdeal.Value.G6 a0 a1 a2 a3 a4
    = shapeCast S2x9x40x12288 (GC a0 a2) Cert.KernelIdeal.Gen.facts.shapeCasts_S2x360x12288_S2x9x40x12288 := by
  funext i
  idx_vars i
  unfold Cert.ReferenceIdeal.Value.G6
  unfold_payloads
  pointwise [GC]
  refine Finset.sum_congr rfl fun s _ => ?_
  congr 2
  blk_ext

/-- The dispatched scales, the expert axis moved behind the group axis. -/
theorem scales_eq : Cert.ReferenceIdeal.Value.G7 a0 a1 a2 a3 a4
    = transpose S2x9x40 [1, 0, 2] (GS a1 a2) Cert.KernelIdeal.Gen.facts.transposes_S9x2x40_S2x9x40_1_0_2 := by
  funext i
  idx_vars i
  unfold Cert.ReferenceIdeal.Value.G7
  unfold_payloads
  pointwise [GS]

/-- The two programs agree: from equal arguments both end with the same three results, their arguments unchanged. -/
theorem algebraic : Cert.algebraic_KernelIdeal_ReferenceIdeal (hKernelIdeal := Cert.KernelIdeal.Gen.facts)
    (hReferenceIdeal := Cert.ReferenceIdeal.Gen.facts) := by
  intro m g m' g' _ h
  refine ⟨_, _, _, Cert.KernelIdeal.Hand.run m g, ?_⟩
  refine (θ_run _ _ _).mono (fun r hr c => ?_) (Cert.ReferenceIdeal.Value.run (F := Ideal) m' g')
  obtain ⟨h0, h1, h2, h3, h4⟩ := h c
  obtain ⟨r0, r1, r2, hk⟩ := hr c
  rw [h0, h1, h2, h3, h4] at r0 r1 r2
  exact ⟨r0.trans (y_eq ..), r1.trans (codes_eq ..), r2.trans (scales_eq ..), hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Region
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.frame_kernel,
  fun m ρ _ => Cert.KernelIdeal.Hand.frame m ρ,
  fun m ρ _ => Cert.ReferenceIdeal.Gen.frame m ρ,
  trivial,
  Cert.Proof.algebraic⟩

end Cert.Proof

end
